-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gate_defined [hPre_gate_defined : Cert.Pre_gate_defined.Facts] (m : (ℓ : Loc Cert.KernelIdeal.nD Cert.KernelIdeal.τ Cert.KernelIdeal.sig) → Buf (Elt Ideal) ℓ) : Prop :=
  ∀ c : Dev Cert.KernelIdeal.nD,
    (Cert.Pre_gate_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gate_defined [hPre_gate_defined : Cert.Pre_gate_defined.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gate_defined.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_gate_defined [hKernelIdeal : Cert.KernelIdeal.Facts] [hPre_gate_defined : Cert.Pre_gate_defined.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gate_defined m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_gate_defined [hReferenceIdeal : Cert.ReferenceIdeal.Facts] [hPre_gate_defined : Cert.Pre_gate_defined.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gate_defined m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_gate_defined [hKernelIdeal : Cert.KernelIdeal.Facts] [hReferenceIdeal : Cert.ReferenceIdeal.Facts] [hPre_gate_defined : Cert.Pre_gate_defined.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gate_defined m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_gate_defined : Cert.Pre_gate_defined.Facts),
    quiescent_Kernel (hKernel := hKernel)
    ∧ quiescent_KernelIdeal (hKernelIdeal := hKernelIdeal)
    ∧ quiescent_KernelIdeal_pre_gate_defined (hKernelIdeal := hKernelIdeal) (hPre_gate_defined := hPre_gate_defined)
    ∧ quiescent_ReferenceIdeal (hReferenceIdeal := hReferenceIdeal)
    ∧ quiescent_ReferenceIdeal_pre_gate_defined (hReferenceIdeal := hReferenceIdeal) (hPre_gate_defined := hPre_gate_defined)
    ∧ preserves_Kernel_KernelIdeal
    ∧ algebraic_KernelIdeal_ReferenceIdeal_pre_gate_defined (hKernelIdeal := hKernelIdeal) (hReferenceIdeal := hReferenceIdeal) (hPre_gate_defined := hPre_gate_defined)
-- ==== Pre_gate_defined.lean ====
abbrev S8192x1024 : Shape := ⟨2, ![8192, 1024]⟩
abbrev S8x1024x512 : Shape := ⟨3, ![8, 1024, 512]⟩
abbrev S8x512x512 : Shape := ⟨3, ![8, 512, 512]⟩
abbrev S8x512x1024 : Shape := ⟨3, ![8, 512, 1024]⟩
abbrev S1024x8 : Shape := ⟨2, ![1024, 8]⟩
abbrev S8 : Shape := ⟨1, ![8]⟩
abbrev S8192x8 : Shape := ⟨2, ![8192, 8]⟩
abbrev S1x8 : Shape := ⟨2, ![1, 8]⟩
abbrev S_ : Shape := ⟨0, ![]⟩
abbrev S8192 : Shape := ⟨1, ![8192]⟩

class Facts : Prop where
  bcast_S8_S1x8_1 : S8.BroadcastsInDim S1x8 (![1] : Fin 1 → Fin S1x8.rank)
  bcast_S1x8_S8192x8_0_1 : S1x8.BroadcastsInDim S8192x8 (![0, 1] : Fin 2 → Fin S8192x8.rank)
  reducesTo_S8192x8_S8192_d1 : S8192x8.ReducesTo [1] S8192
  h_S_ : 0 < S_.numel
  bcast_S_S8192 : S_.BroadcastsInDim S8192 (![] : Fin 0 → Fin S8192.rank)
  dot_S8192x1024_S1024x8_S8192x8_1_0_0_1_n_n_wf : DotDims.WF S8192x1024 S1024x8 S8192x8 [1] [0] [0] [1] [] []

variable [Facts]

def dot_S8192x1024_S1024x8_S8192x8_1_0_0_1_n_n : DotDims S8192x1024 S1024x8 S8192x8 where
  lhsContracting := [1]
  rhsContracting := [0]
  lhsNonContracting := [0]
  rhsNonContracting := [1]
  lhsBatch := []
  rhsBatch := []
  wf := dot_S8192x1024_S1024x8_S8192x8_1_0_0_1_n_n_wf
def fn {F : FTy → Type} [FloatOps F] (main_arg0 : FVec F S8192x1024 .f32) (main_arg1 : FVec F S8x1024x512 .f32) (main_arg2 : FVec F S8x512x512 .f32) (main_arg3 : FVec F S8x512x1024 .f32) (main_arg4 : FVec F S1024x8 .f32) (main_arg5 : FVec F S8 .f32) : IVec S8192 1 :=
  let main_v0 : FVec F S8192x8 .f32 := (fun l r => Host.dotGeneral dot_S8192x1024_S1024x8_S8192x8_1_0_0_1_n_n none l r) main_arg0 main_arg4
  let main_v1 : FVec F S1x8 .f32 := broadcastInDim S1x8 ![1] bcast_S8_S1x8_1 main_arg5
  let main_v2 : FVec F S8192x8 .f32 := broadcastInDim S8192x8 ![0, 1] bcast_S1x8_S8192x8_0_1 main_v1
  let main_v3 : FVec F S8192x8 .f32 := addf main_v0 main_v2
  let main_cst : FVec F S_ .f32 := constant S_ .f32 0xFF800000#32
  let main_v4 : FVec F S8192 .f32 := (fun x v => Host.reduce FloatOps.maximumf x v reducesTo_S8192x8_S8192_d1 h_S_) main_v3 main_cst
  let main_cst_0 : FVec F S_ .f32 := constant S_ .f32 0xFF800000#32
  let main_v5 : FVec F S8192 .f32 := broadcastInDim S8192 ![] bcast_S_S8192 main_cst_0
  let main_v6 : IVec S8192 1 := cmpf .ogt main_v4 main_v5
  let main_cst_1 : FVec F S_ .f32 := constant S_ .f32 0x7F800000#32
  let main_v7 : FVec F S8192 .f32 := broadcastInDim S8192 ![] bcast_S_S8192 main_cst_1
  let main_v8 : IVec S8192 1 := cmpf .olt main_v4 main_v7
  let main_v9 : IVec S8192 1 := andi main_v6 main_v8
  main_v9
-- ==== Kernel.lean ====
abbrev S8192x1024 : Shape := ⟨2, ![8192, 1024]⟩
abbrev S8x1024x512 : Shape := ⟨3, ![8, 1024, 512]⟩
abbrev S8x512x512 : Shape := ⟨3, ![8, 512, 512]⟩
abbrev S8x512x1024 : Shape := ⟨3, ![8, 512, 1024]⟩
abbrev S1024x8 : Shape := ⟨2, ![1024, 8]⟩
abbrev S8 : Shape := ⟨1, ![8]⟩
abbrev S4096x1024 : Shape := ⟨2, ![4096, 1024]⟩
abbrev S1x8 : Shape := ⟨2, ![1, 8]⟩
abbrev S512x1024 : Shape := ⟨2, ![512, 1024]⟩
abbrev S512x8 : Shape := ⟨2, ![512, 8]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1x512x512 : Shape := ⟨3, ![1, 512, 512]⟩
abbrev S512x4096 : Shape := ⟨2, ![512, 4096]⟩

abbrev nBuf : Space → Nat
  | .hbm => 9
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8x1024x512, .f32⟩
  | .hbm, ⟨2, _⟩ => ⟨S8x512x512, .f32⟩
  | .hbm, ⟨3, _⟩ => ⟨S8x512x1024, .f32⟩
  | .hbm, ⟨4, _⟩ => ⟨S1024x8, .f32⟩
  | .hbm, ⟨5, _⟩ => ⟨S8, .f32⟩
  | .hbm, ⟨6, _⟩ => ⟨S4096x1024, .f32⟩
  | .hbm, ⟨7, _⟩ => ⟨S1x8, .f32⟩
  | .hbm, ⟨8, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S8x1024x512, .f32⟩
  | .local _ .vmem, ⟨3, _⟩ => ⟨S8x512x512, .f32⟩
  | .local _ .vmem, ⟨4, _⟩ => ⟨S4096x1024, .f32⟩
  | .local _ .vmem, ⟨5, _⟩ => ⟨S1024x8, .f32⟩
  | .local _ .vmem, ⟨6, _⟩ => ⟨S1x8, .f32⟩
  | .local _ .vmem, ⟨7, _⟩ => ⟨S512x1024, .f32⟩
  | .local _ .vmem, ⟨8, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8192x1024 : Shape := ⟨2, ![8192, 1024]⟩
abbrev S8x1024x512 : Shape := ⟨3, ![8, 1024, 512]⟩
abbrev S8x512x512 : Shape := ⟨3, ![8, 512, 512]⟩
abbrev S8x512x1024 : Shape := ⟨3, ![8, 512, 1024]⟩
abbrev S1024x8 : Shape := ⟨2, ![1024, 8]⟩
abbrev S8 : Shape := ⟨1, ![8]⟩
abbrev S8192x8 : Shape := ⟨2, ![8192, 8]⟩
abbrev S1x8 : Shape := ⟨2, ![1, 8]⟩
abbrev S_ : Shape := ⟨0, ![]⟩
abbrev S8192 : Shape := ⟨1, ![8192]⟩
abbrev S8192x1 : Shape := ⟨2, ![8192, 1]⟩
abbrev S8x8192 : Shape := ⟨2, ![8, 8192]⟩
abbrev S8192x8x512 : Shape := ⟨3, ![8192, 8, 512]⟩
abbrev S8x8192x512 : Shape := ⟨3, ![8, 8192, 512]⟩
abbrev S8x8192x1024 : Shape := ⟨3, ![8, 8192, 1024]⟩
abbrev S8x8192x1 : Shape := ⟨3, ![8, 8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x1024x512, .f32⟩
  | .hbm, ⟨2, _⟩ => ⟨S8x512x512, .f32⟩
  | .hbm, ⟨3, _⟩ => ⟨S8x512x1024, .f32⟩
  | .hbm, ⟨4, _⟩ => ⟨S1024x8, .f32⟩
  | .hbm, ⟨5, _⟩ => ⟨S8, .f32⟩
  | .hbm, ⟨6, _⟩ => ⟨S8192x8, .f32⟩
  | .hbm, ⟨7, _⟩ => ⟨S1x8, .f32⟩
  | .hbm, ⟨8, _⟩ => ⟨S8192x8, .f32⟩
  | .hbm, ⟨9, _⟩ => ⟨S8192x8, .f32⟩
  | .hbm, ⟨10, _⟩ => ⟨S_, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S8192x1, .f32⟩
  | .hbm, ⟨16, _⟩ => ⟨S8192x8, .f32⟩
  | .hbm, ⟨17, _⟩ => ⟨S8192x8, .f32⟩
  | .hbm, ⟨18, _⟩ => ⟨S8192x8, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S8192x8, .f32⟩
  | .hbm, ⟨23, _⟩ => ⟨S8192x8, .f32⟩
  | .hbm, ⟨24, _⟩ => ⟨S8x8192, .f32⟩
  | .hbm, ⟨25, _⟩ => ⟨S8192x8x512, .f32⟩
  | .hbm, ⟨26, _⟩ => ⟨S8x8192x512, .f32⟩
  | .hbm, ⟨27, _⟩ => ⟨S_, .f32⟩
  | .hbm, ⟨28, _⟩ => ⟨S8x8192x512, .f32⟩
  | .hbm, ⟨29, _⟩ => ⟨S8x8192x512, .f32⟩
  | .hbm, ⟨30, _⟩ => ⟨S8x8192x512, .f32⟩
  | .hbm, ⟨31, _⟩ => ⟨S_, .f32⟩
  | .hbm, ⟨32, _⟩ => ⟨S8x8192x512, .f32⟩
  | .hbm, ⟨33, _⟩ => ⟨S8x8192x512, .f32⟩
  | .hbm, ⟨34, _⟩ => ⟨S8x8192x1024, .f32⟩
  | .hbm, ⟨35, _⟩ => ⟨S8x8192x1, .f32⟩
  | .hbm, ⟨36, _⟩ => ⟨S8x8192x1024, .f32⟩
  | .hbm, ⟨37, _⟩ => ⟨S8x8192x1024, .f32⟩
  | .hbm, ⟨38, _⟩ => ⟨S_, .f32⟩
  | .hbm, ⟨39, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_call1_cst : Ref sig .tc := ⟨.hbm, 31, rfl⟩
abbrev main_call1_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Weights.lean ====
/-
  The gate's weights, as mathematics over the extended reals, of one row's eight logits: they are the softmax of the
  logits, and wherever the greatest logit is finite each of them is a nonnegative real number. A nonnegative real factor
  passes into any finite sum of extended reals, infinite terms included, which is what lets a weight be applied before
  or after an expert's last matrix product.
-/
module

public import Idealize.ShloMosaic.Lib.Pointwise

@[expose] public section

noncomputable section

namespace Cert.Moe

open Idealize.ShloMosaic

/-- The constant a maximum starts from, minus infinity. -/
theorem start_eq_bot : Ideal.ofBits .f32 0xFF800000#32 = (⊥ : EReal) := by
  simp [Ideal.ofBits, Ideal.ieee]

/-- The greatest of a row's eight logits. -/
def peak (L : Fin 8 → EReal) : EReal := Finset.univ.fold max (Ideal.ofBits .f32 0xFF800000#32) L

/-- The softmax's numerator for expert `e`: the exponential of its logit less the greatest. -/
def part (L : Fin 8 → EReal) (e : Fin 8) : EReal := Ideal.exp (L e - peak L)

/-- The weight of expert `e`: its numerator over the sum of all eight. -/
def weight (L : Fin 8 → EReal) (e : Fin 8) : EReal := Ideal.div (part L e) (∑ e', part L e')

/-- Taking the maximum with minus infinity once more changes nothing. -/
theorem max_start_peak (L : Fin 8 → EReal) : max (Ideal.ofBits .f32 0xFF800000#32) (peak L) = peak L := by
  rw [start_eq_bot]; exact max_eq_right bot_le

/-- No logit exceeds the greatest. -/
theorem le_peak (L : Fin 8 → EReal) (e : Fin 8) : L e ≤ peak L :=
  (Finset.le_fold_max _).2 (.inr ⟨e, Finset.mem_univ e, le_rfl⟩)

/-- When the greatest logit is not minus infinity, some logit attains it. -/
theorem exists_eq_peak (L : Fin 8 → EReal) (h : peak L ≠ ⊥) : ∃ e, L e = peak L := by
  rcases (Finset.le_fold_max (peak L)).1 (le_refl (peak L)) with h' | ⟨e, -, he⟩
  · rw [start_eq_bot] at h'
    exact absurd (le_bot_iff.1 h') h
  · exact ⟨e, le_antisymm (le_peak L e) he⟩

/-- With a finite greatest logit every numerator is a nonnegative real number. -/
theorem part_real (L : Fin 8 → EReal) (hb : peak L ≠ ⊥) (ht : peak L ≠ ⊤) (e : Fin 8) :
    ∃ p : ℝ, 0 ≤ p ∧ part L e = p := by
  have hle := le_peak L e
  unfold part
  generalize peak L = M at *
  generalize L e = l at *
  induction M using EReal.rec with
  | bot => exact absurd rfl hb
  | top => exact absurd rfl ht
  | coe M =>
    induction l using EReal.rec with
    | bot => exact ⟨0, le_rfl, by rw [EReal.bot_sub, Ideal.exp_bot]; rfl⟩
    | top => exact absurd (top_le_iff.1 hle) (EReal.coe_ne_top M)
    | coe l => exact ⟨Real.exp (l - M), (Real.exp_pos _).le, by rw [← EReal.coe_sub, Ideal.exp_coe]⟩

/-- With a finite greatest logit some numerator is exactly one. -/
theorem exists_part_eq_one (L : Fin 8 → EReal) (hb : peak L ≠ ⊥) (ht : peak L ≠ ⊤) : ∃ e, part L e = 1 := by
  obtain ⟨e, he⟩ := exists_eq_peak L hb
  refine ⟨e, ?_⟩
  unfold part
  rw [he, EReal.sub_self ht hb, ← EReal.coe_zero, Ideal.exp_coe, Real.exp_zero, EReal.coe_one]

/-- With a finite greatest logit every weight is a nonnegative real number. -/
theorem weight_real (L : Fin 8 → EReal) (hb : peak L ≠ ⊥) (ht : peak L ≠ ⊤) (e : Fin 8) :
    ∃ a : ℝ, 0 ≤ a ∧ weight L e = a := by
  choose p hp hpart using part_real L hb ht
  obtain ⟨e₁, h₁⟩ := exists_part_eq_one L hb ht
  have hsum : ∑ e', part L e' = ((∑ e', p e' : ℝ) : EReal) := by
    simp only [hpart]
    exact (map_sum (⟨⟨Real.toEReal, EReal.coe_zero⟩, EReal.coe_add⟩ : ℝ →+ EReal) p Finset.univ).symm
  have hpos : 0 < ∑ e', p e' := by
    refine Finset.sum_pos' (fun i _ => hp i) ⟨e₁, Finset.mem_univ e₁, ?_⟩
    have : p e₁ = 1 := by rw [hpart] at h₁; exact_mod_cast h₁
    rw [this]; exact one_pos
  refine ⟨p e * (∑ e', p e')⁻¹, mul_nonneg (hp e) (inv_nonneg.2 hpos.le), ?_⟩
  unfold weight Ideal.div
  rw [hsum, if_neg (by exact_mod_cast hpos.ne'), hpart, EReal.coe_mul, EReal.coe_inv]

/-- A nonnegative real factor passes into a finite sum of extended reals. -/
theorem mul_sum_of_nonneg {ι : Type} (s : Finset ι) (a : ℝ) (ha : 0 ≤ a) (f : ι → EReal) :
    (a : EReal) * ∑ k ∈ s, f k = ∑ k ∈ s, (a : EReal) * f k := by
  classical
  induction s using Finset.induction_on with
  | empty => simp only [Finset.sum_empty, mul_zero]
  | insert i s hi ih =>
    rw [Finset.sum_insert hi, Finset.sum_insert hi,
      EReal.left_distrib_of_nonneg_of_ne_top (EReal.coe_nonneg.2 ha) (EReal.coe_ne_top a), ih]

end Cert.Moe

end
-- ==== Proof.Network.lean ====
/-
  One row of the mixture of experts, as mathematics over the extended reals: the gate's logits, an expert's two hidden
  layers, and the row of the output, once with every weight applied to the hidden layer before the last product and once
  with it applied to the product. The two agree wherever the row's greatest logit is finite.
-/
module

public import proofs.«01_k».proof.Proof.Weights

@[expose] public section

noncomputable section

namespace Cert.Moe

open Idealize.ShloMosaic

/-- A dense layer with its negative entries made zero: column `j` of `max (x · W) 0`. -/
def dense {m n : ℕ} (x : Fin m → EReal) (W : Fin m → Fin n → EReal) (j : Fin n) : EReal := max (∑ k, x k * W k j) 0

/-- An expert's second hidden layer: two dense layers, one after the other. -/
def hidden (x : Fin 1024 → EReal) (W0 : Fin 1024 → Fin 512 → EReal) (W1 : Fin 512 → Fin 512 → EReal) : Fin 512 → EReal :=
  dense (dense x W0) W1

/-- The gate's logit for expert `e`. -/
def logit (x : Fin 1024 → EReal) (gw : Fin 1024 → Fin 8 → EReal) (gb : Fin 8 → EReal) (e : Fin 8) : EReal :=
  (∑ k, x k * gw k e) + gb e

/-- An output entry with the weights applied first: the hidden layers, each scaled by its expert's weight, times the
    experts' last matrices, added over all experts and hidden columns. -/
def scaledThenMixed (a : Fin 8 → EReal) (h : Fin 8 → Fin 512 → EReal) (w : Fin 8 → Fin 512 → EReal) : EReal :=
  ∑ e, ∑ k, h e k * a e * w e k

/-- An output entry with the weights applied last: every expert's own output, scaled by its weight, and added. -/
def mixedThenScaled (a : Fin 8 → EReal) (h : Fin 8 → Fin 512 → EReal) (w : Fin 8 → Fin 512 → EReal) : EReal :=
  ∑ e, a e * ∑ k, h e k * w e k

/-- THE EQUATION: where the greatest logit is finite the weights may be applied first or last, whatever the hidden
    layers and the matrices hold. -/
theorem scaledThenMixed_eq (L : Fin 8 → EReal) (hb : peak L ≠ ⊥) (ht : peak L ≠ ⊤) (h w : Fin 8 → Fin 512 → EReal) :
    scaledThenMixed (weight L) h w = mixedThenScaled (weight L) h w := by
  refine Finset.sum_congr rfl fun e _ => ?_
  obtain ⟨a, ha, hw⟩ := weight_real L hb ht e
  rw [hw, mul_sum_of_nonneg Finset.univ a ha]
  refine Finset.sum_congr rfl fun k _ => ?_
  rw [mul_comm (h e k), mul_assoc]

end Cert.Moe

end
-- ==== Proof.Defined.lean ====
/-
  What the precondition says: in every row the greatest gate logit is neither minus nor plus infinity.
-/
module

public import proofs.«01_k».proof.Pre_gate_defined
public import proofs.«01_k».proof.Proof.Network
public import Idealize.ShloMosaic.Lib.Pointwise

@[expose] public section

set_option maxRecDepth 16384

noncomputable section

namespace Cert.Moe

open Idealize.ShloMosaic
open Cert.Pre_gate_defined

/-- The side conditions of the precondition's operations hold. -/
instance definedFacts : Cert.Pre_gate_defined.Facts where
  bcast_S8_S1x8_1 := by decide
  bcast_S1x8_S8192x8_0_1 := by decide
  reducesTo_S8192x8_S8192_d1 := by decide
  h_S_ := by decide
  bcast_S_S8192 := by decide
  dot_S8192x1024_S1024x8_S8192x8_1_0_0_1_n_n_wf := by decide

/-- The constant of the upper comparison, plus infinity. -/
theorem bound_eq_top : Ideal.ofBits .f32 0x7F800000#32 = (⊤ : EReal) := by
  simp [Ideal.ofBits, Ideal.ieee]

/-- A conjunction of two truth bits is one only when both are. -/
theorem both_true : ∀ p q : Bool, IntOp.andi (BitVec.ofBool p) (BitVec.ofBool q) = 1#1 → p = true ∧ q = true := by
  decide

/-- Where the precondition holds, every row's greatest logit is finite. -/
theorem peak_finite (x : FVec Ideal S8192x1024 .f32) (W0 : FVec Ideal S8x1024x512 .f32) (W1 : FVec Ideal S8x512x512 .f32)
    (W2 : FVec Ideal S8x512x1024 .f32) (gw : FVec Ideal S1024x8 .f32) (gb : FVec Ideal S8 .f32)
    (h : Cert.Pre_gate_defined.fn (F := Ideal) x W0 W1 W2 gw gb = fun _ => 1#1) (r : Fin 8192) :
    peak (logit (fun k => x (ix2 r k)) (fun k e => gw (ix2 k e)) fun e => gb (ix1 e)) ≠ ⊥
      ∧ peak (logit (fun k => x (ix2 r k)) (fun k e => gw (ix2 k e)) fun e => gb (ix1 e)) ≠ ⊤ := by
  have hr := congrFun h (ix1 r)
  pointwise [Cert.Pre_gate_defined.fn] at hr
  obtain ⟨hlo, hhi⟩ := both_true _ _ hr
  refine ⟨fun he => ?_, fun he => ?_⟩
  · exact absurd (of_decide_eq_true hlo) (by rw [start_eq_bot]; exact not_lt.2 (start_eq_bot ▸ he).le)
  · exact absurd (of_decide_eq_true hhi) (by rw [bound_eq_top]; exact not_lt.2 (ge_of_eq he))

end Cert.Moe

end
-- ==== Proof.Block.lean ====
/-
  What the kernel's body computes from the blocks it loads, entry by entry: the gate's weights of a row, one expert's
  hidden layer scaled by its weight (stated once, for every expert), and the product of all eight of them, side by side,
  with the experts' last matrices stacked.
-/
module

public import proofs.«01_k».proof.Proof.Network
public import proofs.«01_k».proof.Proof.Gen.KernelIdeal.Skeleton
public import Idealize.ShloMosaic.Lib.Pointwise

@[expose] public section

set_option maxRecDepth 16384

noncomputable section

namespace Cert.Moe

open Idealize.ShloMosaic Idealize.ShloMosaic.TcCoe Idealize.SL.Sem
open Cert.KernelIdeal Cert.KernelIdeal.Gen

/-- The body's weights at row `r`, expert `e`: the weight of that expert among the row's logits. -/
theorem pay2_apply (x : FVec Ideal S512x1024 .f32) (gw : FVec Ideal S1024x8 .f32) (gb : FVec Ideal S1x8 .f32)
    (r : Fin 512) (e : Fin 8) :
    k0_pay2 (F := Ideal) x gw gb (ix2 r e)
      = weight (logit (fun k => x (ix2 r k)) (fun k e => gw (ix2 k e)) fun e => gb (ix2 0 e)) e := by
  pointwise [k0_pay2, weight, part, peak, logit, zero_add]

/-- Column `e` of the weights is a slice of them. -/
theorem slice_ok (e : Fin 8) : S512x8.Slices ![0, e.val] S512x1 := by
  revert e; decide

/-- One expert's second hidden layer for the block's rows, scaled by the expert's weight: the body's own operations,
    once, for any expert. -/
def expert (e : Fin 8) (x : FVec Ideal S512x1024 .f32) (a : FVec Ideal S512x8 .f32) (w0 : FVec Ideal S1x1024x512 .f32)
    (w1 : FVec Ideal S1x512x512 .f32) : FVec Ideal S512x512 .f32 :=
  mulf
    (maximumf
      (matmul dot_S512x512_S512x512_S512x512_1_0_0_1_n_n none
        (maximumf
          (matmul dot_S512x1024_S1024x512_S512x512_1_0_0_1_n_n none x (shapeCast S1024x512 w0 shapeCasts_S1x1024x512_S1024x512)
            (constant S512x512 .f32 0x00000000#32))
          (broadcast S512x512 (Scalar.ofBits .f32 0x00000000#32)))
        (shapeCast S512x512 w1 shapeCasts_S1x512x512_S512x512) (constant S512x512 .f32 0x00000000#32))
      (broadcast S512x512 (Scalar.ofBits .f32 0x00000000#32)))
    (broadcastTo S512x512 (extractStridedSlice S512x1 ![0, e.val] a (slice_ok e)) broadcasts_S512x1_S512x512)

/-- The scaled hidden layer at row `r`, column `k`. -/
theorem expert_apply (e : Fin 8) (x : FVec Ideal S512x1024 .f32) (a : FVec Ideal S512x8 .f32) (w0 : FVec Ideal S1x1024x512 .f32)
    (w1 : FVec Ideal S1x512x512 .f32) (r k : Fin 512) :
    expert e x a w0 w1 (ix2 r k)
      = hidden (fun k => x (ix2 r k)) (fun k j => w0 (ix3 0 k j)) (fun k j => w1 (ix3 0 k j)) k * a (ix2 r e) := by
  pointwise [expert, hidden, dense, zero_add]

/-- Eight families side by side, read at place `512 e + k`: family `e` at `k`. -/
theorem pick (g : Fin 8 → Fin 512 → EReal) (e : Fin 8) (k : Fin 512) :
    (if h : (e : ℕ) * 512 + k < 512 then g 0 ⟨(e : ℕ) * 512 + k, h⟩ else
      (if h : (e : ℕ) * 512 + k - 512 < 512 then g 1 ⟨(e : ℕ) * 512 + k - 512, h⟩ else
      (if h : (e : ℕ) * 512 + k - 512 - 512 < 512 then g 2 ⟨(e : ℕ) * 512 + k - 512 - 512, h⟩ else
      (if h : (e : ℕ) * 512 + k - 512 - 512 - 512 < 512 then g 3 ⟨(e : ℕ) * 512 + k - 512 - 512 - 512, h⟩ else
      (if h : (e : ℕ) * 512 + k - 512 - 512 - 512 - 512 < 512 then g 4 ⟨(e : ℕ) * 512 + k - 512 - 512 - 512 - 512, h⟩ else
      (if h : (e : ℕ) * 512 + k - 512 - 512 - 512 - 512 - 512 < 512 then g 5 ⟨(e : ℕ) * 512 + k - 512 - 512 - 512 - 512 - 512, h⟩ else
      (if h : (e : ℕ) * 512 + k - 512 - 512 - 512 - 512 - 512 - 512 < 512 then g 6 ⟨(e : ℕ) * 512 + k - 512 - 512 - 512 - 512 - 512 - 512, h⟩ else
      g 7 ⟨(e : ℕ) * 512 + k - 512 - 512 - 512 - 512 - 512 - 512 - 512, by omega⟩)))))))
      = g e k := by
  split_ifs <;> refine congrArg₂ g (Fin.ext ?_) (Fin.ext ?_) <;> lia

/-- The body's stored value, from the blocks it loads: `u e` and `t e` are expert `e`'s first two matrices, `w` the
    experts' last matrices stacked. -/
def body (x : FVec Ideal S512x1024 .f32) (gw : FVec Ideal S1024x8 .f32) (gb : FVec Ideal S1x8 .f32)
    (u : Fin 8 → FVec Ideal S1x1024x512 .f32) (t : Fin 8 → FVec Ideal S1x512x512 .f32) (w : FVec Ideal S4096x1024 .f32) :
    FVec Ideal S512x1024 .f32 :=
  k0_pay1 x (k0_pay2 x gw gb) (k0_pay3 x gw gb (u 0) (t 0)) (k0_pay5 (k0_pay2 x gw gb) (k0_pay4 x (u 1)) (t 1))
        (k0_pay6 x (k0_pay2 x gw gb) (u 2) (t 2)) (k0_pay7 x (k0_pay2 x gw gb) (u 3) (t 3))
        (k0_pay8 x (k0_pay2 x gw gb) (u 4) (t 4)) (k0_pay9 x (k0_pay2 x gw gb) (u 5) (t 5))
        (k0_pay10 x (u 6)) (k0_pay11 (t 6)) (constant S512x512 .f32 0x00000000#32) (u 7) (t 7) w

/-- The stored value is one product: the eight scaled hidden layers side by side, times the stacked last matrices. -/
theorem body_eq (x : FVec Ideal S512x1024 .f32) (gw : FVec Ideal S1024x8 .f32) (gb : FVec Ideal S1x8 .f32)
    (u : Fin 8 → FVec Ideal S1x1024x512 .f32) (t : Fin 8 → FVec Ideal S1x512x512 .f32) (w : FVec Ideal S4096x1024 .f32)
    (h : Fin 8 → FVec Ideal S512x512 .f32) (hh : ∀ e, h e = expert e x (k0_pay2 x gw gb) (u e) (t e)) :
    body x gw gb u t w
      = matmul dot_S512x4096_S4096x1024_S512x1024_1_0_0_1_n_n none
          (concatenate S512x4096 1 [⟨S512x512, h 0⟩, ⟨S512x512, h 1⟩, ⟨S512x512, h 2⟩, ⟨S512x512, h 3⟩, ⟨S512x512, h 4⟩,
            ⟨S512x512, h 5⟩, ⟨S512x512, h 6⟩, ⟨S512x512, h 7⟩]
            concatenates_S512x512_S512x512_S512x512_S512x512_S512x512_S512x512_S512x512_S512x512_S512x4096_d1)
          (shapeCast S4096x1024 w shapeCasts_S4096x1024_S4096x1024) (constant S512x1024 .f32 0x00000000#32) := by
  obtain rfl : h = fun e => expert e x (k0_pay2 x gw gb) (u e) (t e) := funext hh
  rfl

/-- THE BODY'S RESULT at row `r`, column `o`, from the blocks it loads: the row's mixture with the weights
    applied first; expert `e`'s last matrix is rows `512 e` to `512 e + 511` of the stacked ones. -/
theorem body_apply (x : FVec Ideal S512x1024 .f32) (gw : FVec Ideal S1024x8 .f32) (gb : FVec Ideal S1x8 .f32)
    (u : Fin 8 → FVec Ideal S1x1024x512 .f32) (t : Fin 8 → FVec Ideal S1x512x512 .f32) (w : FVec Ideal S4096x1024 .f32)
    (r : Fin 512) (o : Fin 1024) :
    body x gw gb u t w (ix2 r o)
      = scaledThenMixed (weight (logit (fun k => x (ix2 r k)) (fun k e => gw (ix2 k e)) fun e => gb (ix2 0 e)))
          (fun e => hidden (fun k => x (ix2 r k)) (fun k j => u e (ix3 0 k j)) (fun k j => t e (ix3 0 k j)))
          (fun e k => w (ix2 ⟨e * 512 + k, by omega⟩ o)) := by
  rw [body_eq x gw gb u t w _ fun _ => rfl]
  pointwise [expert_apply, pay2_apply, zero_add]
  rw [Fin.sum_univ_tiles 8 512 rfl]
  refine Finset.sum_congr rfl fun e _ => Finset.sum_congr rfl fun k _ => ?_
  exact congrArg (· * _) (pick
    (fun e k => hidden (fun k => x (ix2 r k)) (fun k j => u e (ix3 0 k j)) (fun k j => t e (ix3 0 k j)) k
      * weight (logit (fun k => x (ix2 r k)) (fun k e => gw (ix2 k e)) fun e => gb (ix2 0 e)) e) e k)

end Cert.Moe

end
-- ==== Proof.Result.lean ====
/-
  What the kernel leaves in its output array: row `R` of the array is the mixture of experts of row `R` of the input,
  with every weight applied before the last product.
-/
module

public import proofs.«01_k».proof.Proof.Block
public import proofs.«01_k».proof.Proof.Gen.KernelIdeal.Value
public import Idealize.ShloMosaic.Lib.Pipeline.ValueKit

@[expose] public section

set_option maxRecDepth 16384

noncomputable section

namespace Cert.Moe

open Idealize.ShloMosaic Idealize.ShloMosaic.TcCoe Idealize.SL.Sem Idealize.ShloMosaic.Pipeline
open Cert.KernelIdeal Cert.KernelIdeal.Gen

/-- The output array as a function of the six arguments, the weights applied first. -/
def first (x : FVec Ideal S8192x1024 .f32) (W0 : FVec Ideal S8x1024x512 .f32) (W1 : FVec Ideal S8x512x512 .f32)
    (W2 : FVec Ideal S8x512x1024 .f32) (gw : FVec Ideal S1024x8 .f32) (gb : FVec Ideal S8 .f32) : FVec Ideal S8192x1024 .f32 :=
  fun i => scaledThenMixed
    (weight (logit (fun k => x (ix2 (i 0) k)) (fun k e => gw (ix2 k e)) fun e => gb (ix1 e)))
    (fun e => hidden (fun k => x (ix2 (i 0) k)) (fun k j => W0 (ix3 e k j)) fun k j => W1 (ix3 e k j))
    (fun e k => W2 (ix3 e k (i 1)))

/-- Expert `e`'s slab of the first matrices lies inside them. -/
theorem slab0_ok (e : Fin 8) : ∀ a, (![e.val, 0, 0] : Fin 3 → ℕ) a + S1x1024x512.size a ≤ S8x1024x512.size a := by
  revert e; decide

/-- Expert `e`'s slab of the second matrices lies inside them. -/
theorem slab1_ok (e : Fin 8) : ∀ a, (![e.val, 0, 0] : Fin 3 → ℕ) a + S1x512x512.size a ≤ S8x512x512.size a := by
  revert e; decide

/-- Expert `e`'s slab of the first matrices, as the body loads it. -/
def slab0 (X : FVec Ideal S8x1024x512 .f32) (e : Fin 8) : FVec Ideal S1x1024x512 .f32 :=
  View.ld (Val := Elt Ideal) (e' := .f32) X (Rect.unit (s := S8x1024x512) ![e.val, 0, 0] S1x1024x512.size (slab0_ok e))

/-- Expert `e`'s slab of the second matrices, as the body loads it. -/
def slab1 (X : FVec Ideal S8x512x512 .f32) (e : Fin 8) : FVec Ideal S1x512x512 .f32 :=
  View.ld (Val := Elt Ideal) (e' := .f32) X (Rect.unit (s := S8x512x512) ![e.val, 0, 0] S1x512x512.size (slab1_ok e))

/-- An entry of a first slab. -/
theorem slab0_apply (X : FVec Ideal S8x1024x512 .f32) (e : Fin 8) (k : Fin 1024) (j : Fin 512) :
    slab0 X e (ix3 0 k j) = X (ix3 e k j) := by
  pointwise [slab0]

/-- An entry of a second slab. -/
theorem slab1_apply (X : FVec Ideal S8x512x512 .f32) (e : Fin 8) (k j : Fin 512) :
    slab1 X e (ix3 0 k j) = X (ix3 e k j) := by
  pointwise [slab1]

variable (m : (ℓ : Loc nD τ sig) → Buf (Elt Ideal) ℓ)

/-- Where each window's block lies at grid point `t`: the input and output rows move with the point, the rest stays. -/
theorem idx : ∀ t : Fin cfg0.N, win0_0.index t = ![t.val, 0] ∧ win0_1.index t = ![0, 0, 0] ∧ win0_2.index t = ![0, 0, 0]
    ∧ win0_3.index t = ![0, 0] ∧ win0_4.index t = ![0, 0] ∧ win0_5.index t = ![0, 0] ∧ win0_6.index t = ![t.val, 0] :=
  (by decide +kernel : ∀ t : Fin grid0.N, _)

/-- Row `r` of the input's block is the row of the input where row `r` of the output's block lies. -/
theorem read0 (c : Dev nD) (t : Fin cfg0.N) (r : Fin 512) (o k : Fin 1024) :
    iblk m c 0 t (ix2 r k) = m ((c.tc : Thread nD τ).loc main_arg0) (ix2 (((cfg0.win 6).blk t).view.emb (ix2 r o) 0) k) := by
  blk_ext [iblk, V, idx t]

/-- The block of first matrices is all of them. -/
theorem read1 (c : Dev nD) (t : Fin cfg0.N) : iblk m c 1 t = m ((c.tc : Thread nD τ).loc main_arg1) := by
  blk_ext! [iblk, V, idx t]

/-- The block of second matrices is all of them. -/
theorem read2 (c : Dev nD) (t : Fin cfg0.N) : iblk m c 2 t = m ((c.tc : Thread nD τ).loc main_arg2) := by
  blk_ext! [iblk, V, idx t]

/-- Row `512 e + k` of the stacked last matrices is row `k` of expert `e`'s. -/
theorem read3 (c : Dev nD) (t : Fin cfg0.N) (r : Fin 512) (o : Fin 1024) (e : Fin 8) (k : Fin 512) (h : e.val * 512 + k.val < 4096) :
    iblk m c 3 t (ix2 ⟨e * 512 + k, h⟩ o)
      = m ((c.tc : Thread nD τ).loc main_arg3) (ix3 e k (((cfg0.win 6).blk t).view.emb (ix2 r o) 1)) := by
  blk_point [iblk, V, idx t]

/-- The block of gate matrices is the whole gate matrix. -/
theorem read4 (c : Dev nD) (t : Fin cfg0.N) : iblk m c 4 t = m ((c.tc : Thread nD τ).loc main_arg4) := by
  blk_ext! [iblk, V, idx t]

/-- Entry `e` of the gate's row of offsets. -/
theorem read5 (c : Dev nD) (t : Fin cfg0.N) (e : Fin 8) :
    iblk m c 5 t (ix2 0 e) = m ((c.tc : Thread nD τ).loc main_arg5) (ix1 e) := by
  blk_point [iblk, V, idx t]

/-- One entry of what point `t` writes back is the output function at that entry's place in the array. -/
theorem point (c : Dev nD) (t : Fin cfg0.N) (y : S512x1024.Idx) :
    body (iblk m c 0 t) (iblk m c 4 t) (iblk m c 5 t) (slab0 (iblk m c 1 t))
        (slab1 (iblk m c 2 t)) (iblk m c 3 t) y
      = first (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (((cfg0.win 6).blk t).view.emb y) := by
  idx_vars y
  rw [body_apply]
  simp only [slab0_apply, slab1_apply, read0 m c t y0 y1, read1, read2, read3 m c t y0 y1, read4, read5]
  rfl

/-- THE KERNEL'S RESULT: the output array after the run. -/
theorem final (c : Dev nD) :
    (dats m 0 c).arrAt 6 cfg0.N
      = first (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  refine (dats m 0 c).arrAt_eq_of_covers 6 _ (by decide +kernel) fun t _ y => ?_
  blk_simp
  rw [after0_6]
  unfold_out out0_6
  frame_out
  exact point m c t y

end Cert.Moe

end
-- ==== Proof.Reference.lean ====
/-
  What the reference computes, entry by entry: the mixture of experts of each row, the weights applied last.
-/
module

public import proofs.«01_k».proof.Proof.Network
public import proofs.«01_k».proof.Proof.Gen.ReferenceIdeal.Run
public import Idealize.ShloMosaic.Lib.Pointwise

@[expose] public section

set_option maxRecDepth 16384

noncomputable section

namespace Cert.Moe

open Idealize.ShloMosaic Idealize.ShloMosaic.TcCoe Idealize.SL.Sem
open Cert.ReferenceIdeal Cert.ReferenceIdeal.Gen

/-- The result as a function of the six arguments, the weights applied last. -/
def last (x : FVec Ideal S8192x1024 .f32) (W0 : FVec Ideal S8x1024x512 .f32) (W1 : FVec Ideal S8x512x512 .f32)
    (W2 : FVec Ideal S8x512x1024 .f32) (gw : FVec Ideal S1024x8 .f32) (gb : FVec Ideal S8 .f32) : FVec Ideal S8192x1024 .f32 :=
  fun i => mixedThenScaled
    (weight (logit (fun k => x (ix2 (i 0) k)) (fun k e => gw (ix2 k e)) fun e => gb (ix1 e)))
    (fun e => hidden (fun k => x (ix2 (i 0) k)) (fun k j => W0 (ix3 e k j)) fun k j => W1 (ix3 e k j))
    (fun e k => W2 (ix3 e k (i 1)))

/-- The reference's logits, as an array. -/
def refLogits (x : FVec Ideal S8192x1024 .f32) (gw : FVec Ideal S1024x8 .f32) (gb : FVec Ideal S8 .f32) : FVec Ideal S8192x8 .f32 :=
  addf (Host.dotGeneral dot_S8192x1024_S1024x8_S8192x8_1_0_0_1_n_n none x gw)
    (broadcastInDim S8192x8 ![0, 1] bcast_S1x8_S8192x8_0_1 (broadcastInDim S1x8 ![1] bcast_S8_S1x8_1 gb))

/-- An entry of them is the row's logit for that expert. -/
theorem refLogits_apply (x : FVec Ideal S8192x1024 .f32) (gw : FVec Ideal S1024x8 .f32) (gb : FVec Ideal S8 .f32)
    (r : Fin 8192) (e : Fin 8) :
    refLogits x gw gb (ix2 r e) = logit (fun k => x (ix2 r k)) (fun k e => gw (ix2 k e)) (fun e => gb (ix1 e)) e := by
  pointwise [refLogits, logit]

/-- The reference's softmax numerators, as an array of logits `L`. -/
def refParts (L : FVec Ideal S8192x8 .f32) : FVec Ideal S8192x8 .f32 :=
  Host.exp (subf L (broadcastInDim S8192x8 ![0, 1] bcast_S8192x1_S8192x8_0_1 (broadcastInDim S8192x1 ![0] bcast_S8192_S8192x1_0
    (maximumf (broadcastInDim S8192 ![] bcast_S_S8192 (constant S_ .f32 0xFF800000#32))
      (Host.reduce FloatOps.maximumf L (constant S_ .f32 0xFF800000#32) reducesTo_S8192x8_S8192_d1 h_S_)))))

/-- An entry of them is the numerator of the row's logits. -/
theorem refParts_apply (L : FVec Ideal S8192x8 .f32) (r : Fin 8192) (e : Fin 8) :
    refParts L (ix2 r e) = part (fun e => L (ix2 r e)) e := by
  pointwise [refParts, part]
  exact congrArg (fun M => Ideal.exp (L (ix2 r e) - M)) (max_start_peak fun e => L (ix2 r e))

/-- The reference's weights, expert by row. -/
def refWeights (p : FVec Ideal S8192x8 .f32) : FVec Ideal S8x8192 .f32 :=
  transpose S8x8192 [1, 0] (Host.divf p (broadcastInDim S8192x8 ![0, 1] bcast_S8192x1_S8192x8_0_1
    (broadcastInDim S8192x1 ![0] bcast_S8192_S8192x1_0
      (Host.reduceAdd p (constant S_ .f32 0x00000000#32) reducesTo_S8192x8_S8192_d1 h_S_))))
    transposes_S8192x8_S8x8192_1_0

/-- An entry of them is the weight of the row's logits. -/
theorem refWeights_apply (L : FVec Ideal S8192x8 .f32) (r : Fin 8192) (e : Fin 8) :
    refWeights (refParts L) (ix2 e r) = weight (fun e => L (ix2 r e)) e := by
  pointwise [refWeights, weight, refParts_apply, zero_add]

/-- The reference's second hidden layers, expert by row by column. -/
def refHidden (x : FVec Ideal S8192x1024 .f32) (W0 : FVec Ideal S8x1024x512 .f32) (W1 : FVec Ideal S8x512x512 .f32) :
    FVec Ideal S8x8192x512 .f32 :=
  maximumf
    (Host.dotGeneral dot_S8x8192x512_S8x512x512_S8x8192x512_2_1_1_2_0_0 none
      (maximumf
        (transpose S8x8192x512 [1, 0, 2] (Host.dotGeneral dot_S8192x1024_S8x1024x512_S8192x8x512_1_1_0_02_n_n none x W0)
          transposes_S8192x8x512_S8x8192x512_1_0_2)
        (broadcastInDim S8x8192x512 ![] bcast_S_S8x8192x512 (constant S_ .f32 0x00000000#32)))
      W1)
    (broadcastInDim S8x8192x512 ![] bcast_S_S8x8192x512 (constant S_ .f32 0x00000000#32))

/-- An entry of them is the expert's hidden layer of the row. -/
theorem refHidden_apply (x : FVec Ideal S8192x1024 .f32) (W0 : FVec Ideal S8x1024x512 .f32) (W1 : FVec Ideal S8x512x512 .f32)
    (e : Fin 8) (r : Fin 8192) (k : Fin 512) :
    refHidden x W0 W1 (ix3 e r k)
      = hidden (fun k => x (ix2 r k)) (fun k j => W0 (ix3 e k j)) (fun k j => W1 (ix3 e k j)) k := by
  pointwise [refHidden, hidden, dense]

/-- The reference's last step, from the weights and the hidden layers. -/
def refMix (a : FVec Ideal S8x8192 .f32) (h : FVec Ideal S8x8192x512 .f32) (W2 : FVec Ideal S8x512x1024 .f32) :
    FVec Ideal S8192x1024 .f32 :=
  Host.reduceAdd
    (mulf
      (broadcastInDim S8x8192x1024 ![0, 1, 2] bcast_S8x8192x1_S8x8192x1024_0_1_2
        (broadcastInDim S8x8192x1 ![0, 1] bcast_S8x8192_S8x8192x1_0_1 a))
      (Host.dotGeneral dot_S8x8192x512_S8x512x1024_S8x8192x1024_2_1_1_2_0_0 none h W2))
    (constant S_ .f32 0x00000000#32) reducesTo_S8x8192x1024_S8192x1024_d0 h_S_

/-- THE REFERENCE'S RESULT: its composed term is the output function with the weights applied last. -/
theorem ref_eq (x : FVec Ideal S8192x1024 .f32) (W0 : FVec Ideal S8x1024x512 .f32) (W1 : FVec Ideal S8x512x512 .f32)
    (W2 : FVec Ideal S8x512x1024 .f32) (gw : FVec Ideal S1024x8 .f32) (gb : FVec Ideal S8 .f32) :
    refMix (refWeights (refParts (refLogits x gw gb))) (refHidden x W0 W1) W2 = last x W0 W1 W2 gw gb := by
  funext i
  idx_vars i
  pointwise [refMix, last, mixedThenScaled, refWeights_apply, refHidden_apply, refLogits_apply, zero_add]

/-- The reference's run: its result array is the output function with the weights applied last, its arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v25)
          = last (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5) :=
  (θ_run _ _ _).mono (fun _ h c => ⟨(h c).1.trans (ref_eq _ _ _ _ _ _), (h c).2⟩) (Cert.ReferenceIdeal.Value.run m ρ)

end Cert.Moe

end
-- ==== Proof.Equation.lean ====
/-
  The two output functions, the kernel's and the reference's, agree wherever every row's greatest gate logit is finite.
-/
module

public import proofs.«01_k».proof.Proof.Defined
public import proofs.«01_k».proof.Proof.Result
public import proofs.«01_k».proof.Proof.Reference

@[expose] public section

set_option maxRecDepth 16384

noncomputable section

namespace Cert.Moe

open Idealize.ShloMosaic
open Cert.Pre_gate_defined

/-- Under the precondition the weights may be applied first or last, in the whole array. -/
theorem first_eq_last (x : FVec Ideal S8192x1024 .f32) (W0 : FVec Ideal S8x1024x512 .f32) (W1 : FVec Ideal S8x512x512 .f32)
    (W2 : FVec Ideal S8x512x1024 .f32) (gw : FVec Ideal S1024x8 .f32) (gb : FVec Ideal S8 .f32)
    (h : Cert.Pre_gate_defined.fn (F := Ideal) x W0 W1 W2 gw gb = fun _ => 1#1) :
    first x W0 W1 W2 gw gb = last x W0 W1 W2 gw gb :=
  funext fun i => scaledThenMixed_eq _ (peak_finite x W0 W1 W2 gw gb h (i 0)).1 (peak_finite x W0 W1 W2 gw gb h (i 0)).2 _ _

end Cert.Moe

end
-- ==== Proof.lean ====
/-
  The certificate: the kernel and its ideal form run, leave their arguments unchanged and end with every counter at
  zero; so does the reference; and on every input whose rows' greatest gate logits are finite the kernel's result array
  and the reference's hold the same extended reals.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

set_option maxRecDepth 16384

noncomputable section

namespace Cert.Proof

open Idealize.ShloMosaic Idealize.SL.Sem

/-- The reference runs, leaves its arguments unchanged, and ends with every counter at zero, having none. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.Moe.ref_run m ρ)

/-- THE VALUES: where the precondition holds, the kernel's result array and the reference's are equal. -/
theorem values : Cert.algebraic_KernelIdeal_ReferenceIdeal_pre_gate_defined := by
  intro m ρ m' ρ' hpre hagree
  refine ⟨_, Cert.KernelIdeal.Value.run_blocks m ρ, (θ_run Cert.ReferenceIdeal.defs _ _).mono (fun r h c => ⟨?_, (h c).2⟩)
    (Cert.Moe.ref_run m' ρ')⟩
  obtain ⟨h0, h1, h2, h3, h4, h5⟩ := hagree c
  rw [(h c).1, h0, h1, h2, h3, h4, h5]
  exact ((Cert.Moe.final m c).trans (Cert.Moe.first_eq_last _ _ _ _ _ _ (hpre c))).symm

/-- Everything the certificate claims. -/
theorem claim : Cert.Claim :=
  ⟨Cert.Kernel.Gen.facts, Cert.KernelIdeal.Gen.facts, Cert.ReferenceIdeal.Gen.facts, Cert.Moe.definedFacts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    trivial, values⟩

end Cert.Proof

end
